-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate_inputs [hPre_finite_gate_inputs : Cert.Pre_finite_gate_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate_inputs [hPre_finite_gate_inputs : Cert.Pre_finite_gate_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gate_inputs [hKernelIdeal : Cert.KernelIdeal.Facts] [hPre_finite_gate_inputs : Cert.Pre_finite_gate_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gate_inputs [hReferenceIdeal : Cert.ReferenceIdeal.Facts] [hPre_finite_gate_inputs : Cert.Pre_finite_gate_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_gate_inputs [hKernelIdeal : Cert.KernelIdeal.Facts] [hReferenceIdeal : Cert.ReferenceIdeal.Facts] [hPre_finite_gate_inputs : Cert.Pre_finite_gate_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_gate_inputs : Cert.Pre_finite_gate_inputs.Facts),
    quiescent_Kernel (hKernel := hKernel)
    ∧ quiescent_KernelIdeal (hKernelIdeal := hKernelIdeal)
    ∧ quiescent_KernelIdeal_pre_finite_gate_inputs (hKernelIdeal := hKernelIdeal) (hPre_finite_gate_inputs := hPre_finite_gate_inputs)
    ∧ quiescent_ReferenceIdeal (hReferenceIdeal := hReferenceIdeal)
    ∧ quiescent_ReferenceIdeal_pre_finite_gate_inputs (hReferenceIdeal := hReferenceIdeal) (hPre_finite_gate_inputs := hPre_finite_gate_inputs)
    ∧ preserves_Kernel_KernelIdeal
    ∧ algebraic_KernelIdeal_ReferenceIdeal_pre_finite_gate_inputs (hKernelIdeal := hKernelIdeal) (hReferenceIdeal := hReferenceIdeal) (hPre_finite_gate_inputs := hPre_finite_gate_inputs)
-- ==== Pre_finite_gate_inputs.lean ====
abbrev S8192x1024 : Shape := ⟨2, ![8192, 1024]⟩
abbrev S1024x1024x8 : Shape := ⟨3, ![1024, 1024, 8]⟩
abbrev S1024x8 : Shape := ⟨2, ![1024, 8]⟩
abbrev S8 : Shape := ⟨1, ![8]⟩
abbrev S_ : Shape := ⟨0, ![]⟩

class Facts : Prop where
  bcast_S_S8192x1024 : S_.BroadcastsInDim S8192x1024 (![] : Fin 0 → Fin S8192x1024.rank)
  bcast_S_S1024x8 : S_.BroadcastsInDim S1024x8 (![] : Fin 0 → Fin S1024x8.rank)
  bcast_S_S8 : S_.BroadcastsInDim S8 (![] : Fin 0 → Fin S8.rank)

variable [Facts]

def fn {F : FTy → Type} [FloatOps F] (main_arg0 : FVec F S8192x1024 .f32) (main_arg1 : FVec F S1024x1024x8 .f32) (main_arg2 : FVec F S1024x8 .f32) (main_arg3 : FVec F S1024x8 .f32) (main_arg4 : FVec F S8 .f32) : IVec S8192x1024 1 × IVec S1024x8 1 × IVec S8 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x8 .f32 := Host.absf main_arg3
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  let main_v6 : FVec F S8 .f32 := Host.absf main_arg4
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S8192x1024 : Shape := ⟨2, ![8192, 1024]⟩
abbrev S1024x1024x8 : Shape := ⟨3, ![1024, 1024, 8]⟩
abbrev S1024x8 : Shape := ⟨2, ![1024, 8]⟩
abbrev S8 : Shape := ⟨1, ![8]⟩
abbrev S1048576x8 : Shape := ⟨2, ![1048576, 8]⟩
abbrev S8x1048576 : Shape := ⟨2, ![8, 1048576]⟩
abbrev S8x1024x1024 : Shape := ⟨3, ![8, 1024, 1024]⟩
abbrev S8x1024 : Shape := ⟨2, ![8, 1024]⟩
abbrev S1x8 : Shape := ⟨2, ![1, 8]⟩
abbrev S1024x1024 : Shape := ⟨2, ![1024, 1024]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024x8, .f32⟩
  | .hbm, ⟨2, _⟩ => ⟨S1024x8, .f32⟩
  | .hbm, ⟨3, _⟩ => ⟨S1024x8, .f32⟩
  | .hbm, ⟨4, _⟩ => ⟨S8, .f32⟩
  | .hbm, ⟨5, _⟩ => ⟨S1024x1024x8, .bf16⟩
  | .hbm, ⟨6, _⟩ => ⟨S1048576x8, .bf16⟩
  | .hbm, ⟨7, _⟩ => ⟨S8x1048576, .bf16⟩
  | .hbm, ⟨8, _⟩ => ⟨S8x1024x1024, .bf16⟩
  | .hbm, ⟨9, _⟩ => ⟨S8x1024, .f32⟩
  | .hbm, ⟨10, _⟩ => ⟨S1024x8, .bf16⟩
  | .hbm, ⟨11, _⟩ => ⟨S1x8, .f32⟩
  | .hbm, ⟨12, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024x1024, .bf16⟩
  | .local _ .vmem, ⟨3, _⟩ => ⟨S1024x8, .bf16⟩
  | .local _ .vmem, ⟨4, _⟩ => ⟨S1x8, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x1024 : Shape := ⟨2, ![8192, 1024]⟩
abbrev S1024x1024x8 : Shape := ⟨3, ![1024, 1024, 8]⟩
abbrev S1024x8 : Shape := ⟨2, ![1024, 8]⟩
abbrev S8 : Shape := ⟨1, ![8]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩
abbrev S8192x1024x8 : Shape := ⟨3, ![8192, 1024, 8]⟩
abbrev S1x1024x8 : Shape := ⟨3, ![1, 1024, 8]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024x8, .f32⟩
  | .hbm, ⟨2, _⟩ => ⟨S1024x8, .f32⟩
  | .hbm, ⟨3, _⟩ => ⟨S1024x8, .f32⟩
  | .hbm, ⟨4, _⟩ => ⟨S8, .f32⟩
  | .hbm, ⟨5, _⟩ => ⟨S8192x8, .f32⟩
  | .hbm, ⟨6, _⟩ => ⟨S1x8, .f32⟩
  | .hbm, ⟨7, _⟩ => ⟨S8192x8, .f32⟩
  | .hbm, ⟨8, _⟩ => ⟨S8192x8, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8, .f32⟩
  | .hbm, ⟨22, _⟩ => ⟨S8192x8, .f32⟩
  | .hbm, ⟨23, _⟩ => ⟨S8192x1024x8, .f32⟩
  | .hbm, ⟨24, _⟩ => ⟨S1x1024x8, .f32⟩
  | .hbm, ⟨25, _⟩ => ⟨S8192x1024x8, .f32⟩
  | .hbm, ⟨26, _⟩ => ⟨S8192x1024x8, .f32⟩
  | .hbm, ⟨27, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Gates.lean ====
/- The mathematics of the mixture over the extended reals: the softmax gates of finite logits are
   finite and nonnegative, so a gate distributes over an expert's product and bias. -/
module

public import Idealize.ShloMosaic.Lib.Pipeline.ValueKit
public import Idealize.ShloMosaic.Lib.Pointwise

@[expose] public section

noncomputable section

namespace Cert.Mixture

open Idealize.ShloMosaic Idealize.SL.Sem

/-- The logit of expert `k` for a token `x`: the product with column `k` of the gating kernel, and its bias. -/
def logit (x : Fin 1024 → EReal) (v : Fin 1024 → Fin 8 → EReal) (b : Fin 8 → EReal) (k : Fin 8) : EReal :=
  (∑ d, x d * v d k) + b k

/-- The largest of eight logits, taken from −∞ as both programs take it. -/
def top (l : Fin 8 → EReal) : EReal :=
  Finset.univ.fold max (Ideal.ofBits .f32 0xFF800000#32) l

/-- The softmax gate of expert `k`: the exponential of the logit less the largest, over the sum of all eight. -/
def gate (l : Fin 8 → EReal) (k : Fin 8) : EReal :=
  Ideal.div (Ideal.exp (l k - top l)) (∑ j, Ideal.exp (l j - top l))

/-- The word of −∞ denotes the bottom of the extended reals. -/
theorem negInf : Ideal.ofBits .f32 0xFF800000#32 = ⊥ := by
  simp [Ideal.ofBits, Ideal.ieee]

/-- The word of +∞ denotes the top of the extended reals. -/
theorem posInf : Ideal.ofBits .f32 0x7F800000#32 = ⊤ := by
  simp [Ideal.ofBits, Ideal.ieee]

/-- Taking the largest logit against −∞ once more changes nothing. -/
theorem max_top (l : Fin 8 → EReal) : max (Ideal.ofBits .f32 0xFF800000#32) (top l) = top l := by
  rw [negInf, max_eq_right bot_le]

/-- An exponential is never negative. -/
theorem exp_nonneg (a : EReal) : 0 ≤ Ideal.exp a := by
  induction a with
  | bot => exact le_refl _
  | top => exact le_top
  | coe r => exact EReal.coe_nonneg.mpr (Real.exp_pos r).le

/-- The exponential of a finite value is a positive real. -/
theorem exp_finite {a : EReal} (hb : a ≠ ⊥) (ht : a ≠ ⊤) : ∃ r : ℝ, 0 < r ∧ Ideal.exp a = r := by
  induction a with
  | bot => exact absurd rfl hb
  | top => exact absurd rfl ht
  | coe r => exact ⟨Real.exp r, Real.exp_pos r, rfl⟩

/-- The largest of finite logits is finite. -/
theorem top_finite {l : Fin 8 → EReal} (h : ∀ k, ∃ r : ℝ, l k = r) : ∃ r : ℝ, top l = r := by
  have ht : top l < ⊤ := by
    unfold top
    rw [Finset.fold_max_lt, negInf]
    exact ⟨bot_lt_top, fun k _ => by obtain ⟨r, hr⟩ := h k; rw [hr]; exact EReal.coe_lt_top r⟩
  have hb : ⊥ < top l := by
    unfold top
    rw [Finset.lt_fold_max]
    exact .inr ⟨0, Finset.mem_univ _, by obtain ⟨r, hr⟩ := h 0; rw [hr]; exact EReal.bot_lt_coe r⟩
  exact ⟨(top l).toReal, (EReal.coe_toReal ht.ne hb.ne').symm⟩

/-- The gates of finite logits are nonnegative and finite. -/
theorem gate_finite {l : Fin 8 → EReal} (h : ∀ k, ∃ r : ℝ, l k = r) (k : Fin 8) : 0 ≤ gate l k ∧ gate l k ≠ ⊤ := by
  obtain ⟨M, hM⟩ := top_finite h
  have he (j : Fin 8) : ∃ r : ℝ, 0 < r ∧ Ideal.exp (l j - top l) = r := by
    obtain ⟨a, ha⟩ := h j
    rw [ha, hM, ← EReal.coe_sub]
    exact exp_finite (EReal.coe_ne_bot _) (EReal.coe_ne_top _)
  choose e hpos he using he
  have hs : (∑ j, Ideal.exp (l j - top l)) = ((∑ j, e j : ℝ) : EReal) := by
    rw [Finset.sum_congr rfl fun j _ => he j]
    simp only [Fin.sum_univ_succ, EReal.coe_add, Fin.sum_univ_zero, EReal.coe_zero]
  have hsp : 0 < ∑ j, e j := Finset.sum_pos (fun j _ => hpos j) ⟨0, Finset.mem_univ _⟩
  unfold gate
  rw [hs, he k]
  unfold Ideal.div
  rw [if_neg (by exact_mod_cast hsp.ne'), ← EReal.coe_inv, ← EReal.coe_mul]
  exact ⟨EReal.coe_nonneg.mpr (mul_nonneg (hpos k).le (inv_nonneg.mpr hsp.le)), EReal.coe_ne_top _⟩

/-- A sum of products of finite values, and a finite bias, is finite: so is every logit. -/
theorem logit_finite {x : Fin 1024 → EReal} {v : Fin 1024 → Fin 8 → EReal} {b : Fin 8 → EReal}
    (hx : ∀ d, ∃ r : ℝ, x d = r) (hv : ∀ d k, ∃ r : ℝ, v d k = r) (hb : ∀ k, ∃ r : ℝ, b k = r) (k : Fin 8) :
    ∃ r : ℝ, logit x v b k = r := by
  choose x' hx using hx
  choose v' hv using hv
  obtain ⟨b', hb⟩ := hb k
  have hsum : ∀ s : Finset (Fin 1024), ∃ r : ℝ, (∑ d ∈ s, x d * v d k) = r := by
    intro s
    induction s using Finset.induction_on with
    | empty => exact ⟨0, by simp⟩
    | insert d s hd ih =>
      obtain ⟨r, hr⟩ := ih
      exact ⟨x' d * v' d k + r, by rw [Finset.sum_insert hd, hr, hx, hv, EReal.coe_add, EReal.coe_mul]⟩
  obtain ⟨r, hr⟩ := hsum Finset.univ
  exact ⟨r + b', by unfold logit; rw [hr, hb, EReal.coe_add]⟩

/-- The kernel's order of the mixture, the gated biases first and then one gated expert after the other, is the
    plain mixture of expert outputs wherever the gates are nonnegative and finite: the experts' values are any. -/
theorem mixture (g p b : Fin 8 → EReal) (hg : ∀ k, 0 ≤ g k ∧ g k ≠ ⊤) :
    (∑ k, g k * b k) + g 0 * p 0 + g 1 * p 1 + g 2 * p 2 + g 3 * p 3 + g 4 * p 4 + g 5 * p 5 + g 6 * p 6 + g 7 * p 7
      = ∑ k, (p k + b k) * g k := by
  have e (k : Fin 8) : (p k + b k) * g k = g k * b k + g k * p k := by
    rw [mul_comm, EReal.left_distrib_of_nonneg_of_ne_top (hg k).1 (hg k).2, add_comm]
  rw [Finset.sum_congr rfl fun k _ => e k, Finset.sum_add_distrib, Fin.sum_univ_eight fun k => g k * p k]
  simp only [add_assoc]

end Cert.Mixture

end
-- ==== Proof.Plain.lean ====
/- The plain mathematics' result, entry by entry: the mixture of the experts' outputs by the softmax gates. -/
module

public import proofs.«01_k».proof.Proof.Gen.ReferenceIdeal
public import proofs.«01_k».proof.Proof.Gen.ReferenceIdeal.Run
public import proofs.«01_k».proof.Proof.Gates

@[expose] public section

set_option maxRecDepth 16384

noncomputable section

namespace Cert.ReferenceIdeal.Mixture

open Idealize.ShloMosaic Idealize.ShloMosaic.TcCoe Idealize.SL.Sem
open Cert.ReferenceIdeal Cert.ReferenceIdeal.Gen
open Cert.Mixture

/-- The logits of all tokens: the gating product and its bias. -/
def logits (X : FVec Ideal S8192x1024 .f32) (Gk : FVec Ideal S1024x8 .f32) (Gb : FVec Ideal S8 .f32) :
    FVec Ideal S8192x8 .f32 :=
  addf (Host.dotGeneral dot_S8192x1024_S1024x8_S8192x8_1_0_0_1_n_n none X Gk)
    (broadcastInDim S8192x8 ![0, 1] bcast_S1x8_S8192x8_0_1 (broadcastInDim S1x8 ![1] bcast_S8_S1x8_1 Gb))

/-- The exponentials of all logits, each less its token's largest. -/
def exps (L : FVec Ideal S8192x8 .f32) : FVec Ideal S8192x8 .f32 :=
  Host.exp (subf L (broadcastInDim S8192x8 ![0, 1] bcast_S8192x1_S8192x8_0_1
    (broadcastInDim S8192x1 ![0] bcast_S8192_S8192x1_0
      (maximumf (broadcastInDim S8192 ![] bcast_S_S8192 (constant S_ .f32 0xFF800000#32))
        (Host.reduce FloatOps.maximumf L (constant S_ .f32 0xFF800000#32) reducesTo_S8192x8_S8192_d1 h_S_)))))

/-- The gates of all tokens: the exponentials over their sums. -/
def gates (E : FVec Ideal S8192x8 .f32) : FVec Ideal S8192x8 .f32 :=
  Host.divf E (broadcastInDim S8192x8 ![0, 1] bcast_S8192x1_S8192x8_0_1
    (broadcastInDim S8192x1 ![0] bcast_S8192_S8192x1_0
      (Host.reduceAdd E (constant S_ .f32 0x00000000#32) reducesTo_S8192x8_S8192_d1 h_S_)))

/-- The mixture of the experts' outputs by given gates. -/
def mixed (X : FVec Ideal S8192x1024 .f32) (W : FVec Ideal S1024x1024x8 .f32) (Eb : FVec Ideal S1024x8 .f32)
    (G : FVec Ideal S8192x8 .f32) : FVec Ideal S8192x1024 .f32 :=
  Host.dotGeneral dot_S8192x1024x8_S8192x8_S8192x1024_2_1_1_n_0_0 none
    (addf (Host.dotGeneral dot_S8192x1024_S1024x1024x8_S8192x1024x8_1_0_0_12_n_n none X W)
      (broadcastInDim S8192x1024x8 ![0, 1, 2] bcast_S1x1024x8_S8192x1024x8_0_1_2
        (broadcastInDim S1x1024x8 ![1, 2] bcast_S1024x8_S1x1024x8_1_2 Eb))) G

/-- The result of the plain mathematics, as a term of its arguments. -/
def result (X : FVec Ideal S8192x1024 .f32) (W : FVec Ideal S1024x1024x8 .f32) (Eb Gk : FVec Ideal S1024x8 .f32)
    (Gb : FVec Ideal S8 .f32) : FVec Ideal S8192x1024 .f32 :=
  mixed X W Eb (gates (exps (logits X Gk Gb)))

/-- A token's logits at an entry. -/
theorem logits_at (X : FVec Ideal S8192x1024 .f32) (Gk : FVec Ideal S1024x8 .f32) (Gb : FVec Ideal S8 .f32)
    (n : Fin 8192) (k : Fin 8) :
    logits X Gk Gb (ix2 n k) = logit (fun d => X (ix2 n d)) (fun d j => Gk (ix2 d j)) (fun j => Gb (ix1 j)) k := by
  pointwise [logits, logit]

/-- An exponential at an entry: of the logit less the largest of its token. -/
theorem exps_at (L : FVec Ideal S8192x8 .f32) (n : Fin 8192) (k : Fin 8) :
    exps L (ix2 n k) = Ideal.exp (L (ix2 n k) - top fun j => L (ix2 n j)) := by
  rw [← max_top]
  pointwise [exps, top]

/-- The gates at an entry are the softmax gates of the token's logits. -/
theorem gates_at (L : FVec Ideal S8192x8 .f32) (n : Fin 8192) (k : Fin 8) :
    gates (exps L) (ix2 n k) = gate (fun j => L (ix2 n j)) k := by
  pointwise [gates, gate, exps_at]

/-- The result at token `n` and unit `u`. -/
theorem result_at (X : FVec Ideal S8192x1024 .f32) (W : FVec Ideal S1024x1024x8 .f32) (Eb Gk : FVec Ideal S1024x8 .f32)
    (Gb : FVec Ideal S8 .f32) (n : Fin 8192) (u : Fin 1024) :
    result X W Eb Gk Gb (ix2 n u)
      = ∑ k, ((∑ d, X (ix2 n d) * W (ix3 d u k)) + Eb (ix2 u k))
          * gate (logit (fun d => X (ix2 n d)) (fun d j => Gk (ix2 d j)) (fun j => Gb (ix1 j))) k := by
  pointwise [result, mixed, gates_at, logits_at]

end Cert.ReferenceIdeal.Mixture

end
-- ==== Proof.Tiles.lean ====
/- The kernel's result array: every tile writes its block of one function of the five argument arrays. -/
module

public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import proofs.«01_k».proof.Proof.Gates

@[expose] public section

set_option maxRecDepth 16384

noncomputable section

namespace Cert.KernelIdeal.Mixture

open Idealize.ShloMosaic Idealize.ShloMosaic.TcCoe Idealize.SL.Sem
open Idealize.ShloMosaic.Pipeline (Dat)
open Cert.KernelIdeal Cert.KernelIdeal.Gen
open Cert.Mixture

variable (m : (ℓ : Loc nD τ sig) → Buf (Elt Ideal) ℓ)

/-- The gated output of expert `k` for token `n` at unit `u`, without its bias. -/
def gated (X : FVec Ideal S8192x1024 .f32) (W : FVec Ideal S1024x1024x8 .f32) (Gk : FVec Ideal S1024x8 .f32)
    (Gb : FVec Ideal S8 .f32) (n : Fin 8192) (u : Fin 1024) (k : Fin 8) : EReal :=
  gate (logit (fun d => X (ix2 n d)) (fun d j => Gk (ix2 d j)) (fun j => Gb (ix1 j))) k
    * ∑ d, X (ix2 n d) * W (ix3 d u k)

/-- The kernel's result as a function of its arguments: the gated biases, then the experts in order. -/
def total (X : FVec Ideal S8192x1024 .f32) (W : FVec Ideal S1024x1024x8 .f32) (Eb Gk : FVec Ideal S1024x8 .f32)
    (Gb : FVec Ideal S8 .f32) : FVec Ideal S8192x1024 .f32 := fun i =>
  (∑ k, gate (logit (fun d => X (ix2 (i 0) d)) (fun d j => Gk (ix2 d j)) (fun j => Gb (ix1 j))) k * Eb (ix2 (i 1) k))
    + gated X W Gk Gb (i 0) (i 1) 0 + gated X W Gk Gb (i 0) (i 1) 1 + gated X W Gk Gb (i 0) (i 1) 2
    + gated X W Gk Gb (i 0) (i 1) 3 + gated X W Gk Gb (i 0) (i 1) 4 + gated X W Gk Gb (i 0) (i 1) 5
    + gated X W Gk Gb (i 0) (i 1) 6 + gated X W Gk Gb (i 0) (i 1) 7

/-- Where the blocks lie: the tokens' and the result's move with the tile, the others are whole arrays. -/
theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![t.val, 0] :=
  (by decide +kernel : ∀ t : Fin grid0.N, _)

/-- The weights, with the expert's axis moved to the front by way of one long axis, entry by entry. -/
theorem weights_moved (X : FVec Ideal S1024x1024x8 .f32) (k : Fin 8) (d u : Fin 1024) :
    shapeCast S8x1024x1024 (transpose S8x1048576 [1, 0]
      (shapeCast S1048576x8 (truncf .bf16 X bitsLt_bf16_f32 : FVec Ideal S1024x1024x8 .bf16) shapeCasts_S1024x1024x8_S1048576x8)
      transposes_S1048576x8_S8x1048576_1_0) shapeCasts_S8x1048576_S8x1024x1024 (ix3 k d u) = X (ix3 d u k) := by
  pointwise
  blk_ext

/-- The experts' biases, with the expert's axis moved to the front, entry by entry. -/
theorem biases_moved (X : FVec Ideal S1024x8 .f32) (k : Fin 8) (u : Fin 1024) :
    transpose S8x1024 [1, 0] X transposes_S1024x8_S8x1024_1_0 (ix2 k u) = X (ix2 u k) := by
  pointwise

/-- The weights the kernel's tiles read are the argument's, with the expert's axis first. -/
theorem weights_at (c : Dev nD) (i : S8x1024x1024.Idx) :
    V m c main_call0_v3 i = m ((c : Thread nD τ).loc main_arg1) (ix3 (i 1) (i 2) (i 0)) := by
  idx_vars i
  entry_read
  exact weights_moved _ i0 i1 i2

/-- The experts' biases the kernel's tiles read are the argument's, with the expert's axis first. -/
theorem biases_at (c : Dev nD) (i : S8x1024.Idx) :
    V m c main_call0_v4 i = m ((c : Thread nD τ).loc main_arg2) (ix2 (i 1) (i 0)) := by
  idx_vars i
  entry_read
  exact biases_moved _ i0 i1

set_option maxHeartbeats 1600000 in
/-- The kernel's result array after the run is `total` of the argument arrays: each tile's stored value, read at an
    entry, is that function at the entry's place in the array. -/
theorem final (c : Dev nD) : (dats m 0 c).arrAt 5 cfg0.N
    = total (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  frame_out
  pointwise [k0_pay1, k0_pay2, k0_pay3, k0_pay4, k0_pay5, k0_pay6, k0_pay7, k0_pay8, k0_pay9, total, gated, gate, top,
    logit]
  blk_point [iblk, V, idx t]
  · refine (biases_at m c _).trans ?_
    blk_ext [idx t]
  all_goals
    refine (weights_at m c _).trans ?_
    blk_ext [idx t]

end Cert.KernelIdeal.Mixture

end
-- ==== Proof.Finite.lean ====
/- What the precondition says of a token, a gating kernel and a gating bias: every entry is a real number. -/
module

public import proofs.«01_k».proof.Pre_finite_gate_inputs
public import proofs.«01_k».proof.Proof.Gen.Pre_finite_gate_inputs
public import proofs.«01_k».proof.Proof.Gates

@[expose] public section

set_option maxRecDepth 16384

noncomputable section

namespace Cert.Pre_finite_gate_inputs.Mixture

open Idealize.ShloMosaic
open Cert.Pre_finite_gate_inputs
open Cert.Mixture

/-- A value whose magnitude lies below +∞ is a real number. -/
theorem real_of_lt {a : EReal}
    (h : BitVec.ofBool (decide (FloatOps.absf (F := Ideal) (φ := .f32) a < Ideal.ofBits .f32 0x7F800000#32)) = 1#1) :
    ∃ r : ℝ, a = r := by
  rw [posInf] at h
  have hlt : max a (-a) < ⊤ := by
    by_contra hn
    exact absurd (h.symm.trans (congrArg BitVec.ofBool (decide_eq_false hn))) (by decide)
  induction a with
  | bot => exact absurd hlt (by simp)
  | top => exact absurd hlt (by simp)
  | coe r => exact ⟨r, rfl⟩

variable (X : FVec Ideal S8192x1024 .f32) (W : FVec Ideal S1024x1024x8 .f32) (Eb Gk : FVec Ideal S1024x8 .f32)
  (Gb : FVec Ideal S8 .f32)

/-- The precondition's three masks are all ones only if the tokens, the gating kernel and its bias are real. -/
theorem reals (h0 : (fn X W Eb Gk Gb).1 = fun _ => 1#1) (h1 : (fn X W Eb Gk Gb).2.1 = fun _ => 1#1)
    (h2 : (fn X W Eb Gk Gb).2.2 = fun _ => 1#1) :
    (∀ i, ∃ r : ℝ, X i = r) ∧ (∀ i, ∃ r : ℝ, Gk i = r) ∧ ∀ i, ∃ r : ℝ, Gb i = r := by
  refine ⟨fun i => ?_, fun i => ?_, fun i => ?_⟩
  · have h := congrFun h0 i
    pointwise [fn] at h
    exact real_of_lt h
  · have h := congrFun h1 i
    pointwise [fn] at h
    exact real_of_lt h
  · have h := congrFun h2 i
    pointwise [fn] at h
    exact real_of_lt h

end Cert.Pre_finite_gate_inputs.Mixture

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_gate_inputs
public import proofs.«01_k».proof.Proof.Plain
public import proofs.«01_k».proof.Proof.Tiles
public import proofs.«01_k».proof.Proof.Finite
public import Idealize.ShloMosaic.Adequacy
public import Idealize.ShloMosaic.Lib.Quiescent
public import Idealize.ShloMosaic.Init

@[expose] public section

noncomputable section

namespace Cert.Proof

open Idealize.ShloMosaic Idealize.SL.Sem

/-- The reference as a machine: it ends with its arguments unchanged and every counter at zero. -/
theorem reference_runs : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's order of the mixture and the plain one give the same array where tokens, gating kernel and gating
    bias are real: the experts' weights and biases may be anything. -/
theorem total_eq_result (X : FVec Ideal Cert.KernelIdeal.S8192x1024 .f32)
    (W : FVec Ideal Cert.KernelIdeal.S1024x1024x8 .f32) (Eb Gk : FVec Ideal Cert.KernelIdeal.S1024x8 .f32)
    (Gb : FVec Ideal Cert.KernelIdeal.S8 .f32)
    (hX : ∀ i, ∃ r : ℝ, X i = r) (hGk : ∀ i, ∃ r : ℝ, Gk i = r) (hGb : ∀ i, ∃ r : ℝ, Gb i = r) :
    Cert.ReferenceIdeal.Mixture.result X W Eb Gk Gb = Cert.KernelIdeal.Mixture.total X W Eb Gk Gb := by
  funext i
  idx_vars i
  refine (Cert.ReferenceIdeal.Mixture.result_at X W Eb Gk Gb i0 i1).trans ?_
  exact (Cert.Mixture.mixture
    (Cert.Mixture.gate (Cert.Mixture.logit (fun d => X (ix2 i0 d)) (fun d j => Gk (ix2 d j)) (fun j => Gb (ix1 j))))
    (fun k => ∑ d, X (ix2 i0 d) * W (ix3 d i1 k)) (fun k => Eb (ix2 i1 k))
    (Cert.Mixture.gate_finite
      (Cert.Mixture.logit_finite (fun d => hX _) (fun d k => hGk _) fun k => hGb _))).symm

/-- The kernel and the plain mathematics end with the same result. -/
theorem algebraic : Cert.algebraic_KernelIdeal_ReferenceIdeal_pre_finite_gate_inputs := by
  intro m ρ m' ρ' hpre hagree
  refine ⟨fun c => (Cert.KernelIdeal.Gen.dats m 0 c).arrAt 5 Cert.KernelIdeal.cfg0.N, ?_, ?_⟩
  · exact Cert.KernelIdeal.Value.run_blocks (F := Ideal) m ρ
  refine (θ_run Cert.ReferenceIdeal.defs _ _).mono (fun _ h c => ⟨(h c).1.trans ?_, (h c).2⟩)
    (Cert.ReferenceIdeal.Value.run (F := Ideal) m' ρ')
  obtain ⟨hX, hGk, hGb⟩ := Cert.Pre_finite_gate_inputs.Mixture.reals _ _ _ _ _ (hpre c).1 (hpre c).2.1 (hpre c).2.2
  refine Eq.trans ?_ (Cert.KernelIdeal.Mixture.final m c).symm
  refine Eq.trans ?_ (total_eq_result _ _ _ _ _ hX hGk hGb)
  rw [(hagree c).1, (hagree c).2.1, (hagree c).2.2.1, (hagree c).2.2.2.1, (hagree c).2.2.2.2]
  rfl

/-- Everything the certificate claims. -/
theorem claim : Cert.Claim :=
  ⟨Cert.Kernel.Gen.facts, Cert.KernelIdeal.Gen.facts, Cert.ReferenceIdeal.Gen.facts, Cert.Pre_finite_gate_inputs.Gen.facts,
    fun m ρ _ => Cert.Kernel.Gen.frame m ρ,
    fun m ρ _ => Cert.KernelIdeal.Gen.frame m ρ,
    fun m ρ _ => Cert.KernelIdeal.Gen.frame m ρ,
    reference_runs,
    fun m ρ _ => reference_runs m ρ trivial,
    trivial,
    algebraic⟩

end Cert.Proof

end
